-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S32x512x1024 : Shape := ⟨3, ![32, 512, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S32x512x1024 .f32) (main_arg1 : FVec F S512x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S32x512x1024 1 × IVec S512x1024 1 × IVec S1024x1024 1 × IVec S1024 1 × IVec S1024x1024 1 × IVec S1024 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Kernel.lean ====
abbrev S32x512x1024 : Shape := ⟨3, ![32, 512, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S16x512x64 : Shape := ⟨3, ![16, 512, 64]⟩
abbrev S512x16x64 : Shape := ⟨3, ![512, 16, 64]⟩
abbrev S2x512x1024 : Shape := ⟨3, ![2, 512, 1024]⟩
abbrev S1024x16x64 : Shape := ⟨3, ![1024, 16, 64]⟩
abbrev S16x64x512 : Shape := ⟨3, ![16, 64, 512]⟩
abbrev S16x1024x512 : Shape := ⟨3, ![16, 1024, 512]⟩
abbrev S16x1024 : Shape := ⟨2, ![16, 1024]⟩
abbrev S16x1024x1 : Shape := ⟨3, ![16, 1024, 1]⟩
abbrev S16x1024x64 : Shape := ⟨3, ![16, 1024, 64]⟩

abbrev nBuf : Space → Nat
  | .hbm => 18
  | .vmem => 17
  | .smem => 0
  | _ => 0

abbrev bufTy : (tb : Table) → Fin (tcTables nBuf tb) → BufTy
  | .hbm, ⟨0, _⟩ => ⟨S32x512x1024, .f32⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x512, .bf16⟩
  | .hbm, ⟨15, _⟩ => ⟨S16x512x64, .bf16⟩
  | .hbm, ⟨16, _⟩ => ⟨S1024x1024, .bf16⟩
  | .hbm, ⟨17, _⟩ => ⟨S32x512x1024, .f32⟩
  | .local _ .vmem, ⟨0, _⟩ => ⟨S512x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x512, .bf16⟩
  | .local _ .vmem, ⟨6, _⟩ => ⟨S16x512x64, .bf16⟩
  | .local _ .vmem, ⟨7, _⟩ => ⟨S2x512x1024, .f32⟩
  | .local _ .vmem, ⟨8, _⟩ => ⟨S2x512x1024, .f32⟩
  | .local _ .vmem, ⟨9, _⟩ => ⟨S1024x1024, .f32⟩
  | .local _ .vmem, ⟨10, _⟩ => ⟨S1x1024, .f32⟩
  | .local _ .vmem, ⟨11, _⟩ => ⟨S1024x512, .bf16⟩
  | .local _ .vmem, ⟨12, _⟩ => ⟨S16x512x64, .bf16⟩
  | .local _ .vmem, ⟨13, _⟩ => ⟨S1024x1024, .bf16⟩
  | .local _ .vmem, ⟨14, _⟩ => ⟨S1x1024, .f32⟩
  | .local _ .vmem, ⟨15, _⟩ => ⟨S2x512x1024, .f32⟩
  | .local _ .vmem, ⟨16, _⟩ => ⟨S2x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S2x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x512x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S32x512x1024 : Shape := ⟨3, ![32, 512, 1024]⟩
abbrev S512x1024 : Shape := ⟨2, ![512, 1024]⟩
abbrev S1024x1024 : Shape := ⟨2, ![1024, 1024]⟩
abbrev S1024 : Shape := ⟨1, ![1024]⟩
abbrev S1x512x1024 : Shape := ⟨3, ![1, 512, 1024]⟩
abbrev S1x1x1024 : Shape := ⟨3, ![1, 1, 1024]⟩
abbrev S32x512x16x64 : Shape := ⟨4, ![32, 512, 16, 64]⟩
abbrev S32x16x512x64 : Shape := ⟨4, ![32, 16, 512, 64]⟩
abbrev S32x16x512x512 : Shape := ⟨4, ![32, 16, 512, 512]⟩
abbrev S_ : Shape := ⟨0, ![]⟩
abbrev S32x16x512 : Shape := ⟨3, ![32, 16, 512]⟩
abbrev S32x16x512x1 : Shape := ⟨4, ![32, 16, 512, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S512x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x512x1024, .f32⟩
  | .hbm, ⟨11, _⟩ => ⟨S32x512x1024, .f32⟩
  | .hbm, ⟨12, _⟩ => ⟨S32x512x1024, .f32⟩
  | .hbm, ⟨13, _⟩ => ⟨S1x1x1024, .f32⟩
  | .hbm, ⟨14, _⟩ => ⟨S32x512x1024, .f32⟩
  | .hbm, ⟨15, _⟩ => ⟨S32x512x1024, .f32⟩
  | .hbm, ⟨16, _⟩ => ⟨S32x512x1024, .f32⟩
  | .hbm, ⟨17, _⟩ => ⟨S1x1x1024, .f32⟩
  | .hbm, ⟨18, _⟩ => ⟨S32x512x1024, .f32⟩
  | .hbm, ⟨19, _⟩ => ⟨S32x512x1024, .f32⟩
  | .hbm, ⟨20, _⟩ => ⟨S32x512x1024, .f32⟩
  | .hbm, ⟨21, _⟩ => ⟨S1x1x1024, .f32⟩
  | .hbm, ⟨22, _⟩ => ⟨S32x512x1024, .f32⟩
  | .hbm, ⟨23, _⟩ => ⟨S32x512x1024, .f32⟩
  | .hbm, ⟨24, _⟩ => ⟨S32x512x16x64, .f32⟩
  | .hbm, ⟨25, _⟩ => ⟨S32x16x512x64, .f32⟩
  | .hbm, ⟨26, _⟩ => ⟨S32x512x16x64, .f32⟩
  | .hbm, ⟨27, _⟩ => ⟨S32x16x512x64, .f32⟩
  | .hbm, ⟨28, _⟩ => ⟨S32x512x16x64, .f32⟩
  | .hbm, ⟨29, _⟩ => ⟨S32x16x512x64, .f32⟩
  | .hbm, ⟨30, _⟩ => ⟨S32x16x512x512, .f32⟩
  | .hbm, ⟨31, _⟩ => ⟨S_, .f32⟩
  | .hbm, ⟨32, _⟩ => ⟨S_, .f32⟩
  | .hbm, ⟨33, _⟩ => ⟨S32x16x512x512, .f32⟩
  | .hbm, ⟨34, _⟩ => ⟨S32x16x512x512, .f32⟩
  | .hbm, ⟨35, _⟩ => ⟨S_, .f32⟩
  | .hbm, ⟨36, _⟩ => ⟨S32x16x512, .f32⟩
  | .hbm, ⟨37, _⟩ => ⟨S_, .f32⟩
  | .hbm, ⟨38, _⟩ => ⟨S32x16x512, .f32⟩
  | .hbm, ⟨39, _⟩ => ⟨S32x16x512, .f32⟩
  | .hbm, ⟨40, _⟩ => ⟨S32x16x512x1, .f32⟩
  | .hbm, ⟨41, _⟩ => ⟨S32x16x512x512, .f32⟩
  | .hbm, ⟨42, _⟩ => ⟨S32x16x512x512, .f32⟩
  | .hbm, ⟨43, _⟩ => ⟨S32x16x512x512, .f32⟩
  | .hbm, ⟨44, _⟩ => ⟨S_, .f32⟩
  | .hbm, ⟨45, _⟩ => ⟨S32x16x512, .f32⟩
  | .hbm, ⟨46, _⟩ => ⟨S32x16x512x1, .f32⟩
  | .hbm, ⟨47, _⟩ => ⟨S32x16x512x512, .f32⟩
  | .hbm, ⟨48, _⟩ => ⟨S32x16x512x512, .f32⟩
  | .hbm, ⟨49, _⟩ => ⟨S32x16x512x64, .f32⟩
  | .hbm, ⟨50, _⟩ => ⟨S32x512x16x64, .f32⟩
  | .hbm, ⟨51, _⟩ => ⟨S32x512x1024, .f32⟩
  | .hbm, ⟨52, _⟩ => ⟨S32x512x1024, .f32⟩
  | .hbm, ⟨53, _⟩ => ⟨S1x1x1024, .f32⟩
  | .hbm, ⟨54, _⟩ => ⟨S32x512x1024, .f32⟩
  | .hbm, ⟨55, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen

/-- One score as the kernel takes it, of a query row `q` (all heads' columns side by side) and row `k` of the transposed
    keys, for the head of column `j`: the query scaled by one eighth, times the key, summed over that head's columns. -/
def score (q : Fin 1024 → EReal) (kt : FVec Ideal S1024x512 .bf16) (j : Fin 1024) (k : Fin 512) : EReal :=
  ∑ e : Fin 64, q ⟨j.val / 64 * 64 + e.val, by omega⟩ * Ideal.ofBits .f32 0x3E000000#32 * kt (ix2 ⟨j.val / 64 * 64 + e.val, by omega⟩ k)

/-- The attention block's output at column `d` for one query row: exponentials of the scores against the values, divided
    by the exponentials' sum, through the output projection. -/
def attend (q : Fin 1024 → EReal) (kt : FVec Ideal S1024x512 .bf16) (v3 : FVec Ideal S16x512x64 .bf16) (wo : FVec Ideal S1024x1024 .bf16) (bo : FVec Ideal S1x1024 .f32) (d : Fin 1024) : EReal :=
  ∑ j : Fin 1024, Ideal.div (∑ k : Fin 512, Ideal.exp (score q kt j k) * v3 (ix3 ⟨j.val / 64, by omega⟩ k ⟨j.val % 64, by omega⟩))
    (∑ k : Fin 512, Ideal.exp (score q kt j k)) * wo (ix2 j d) + bo (ix2 0 d)

/-- The first call's transposed keys at an index: memory row `i` against column `j`, plus the bias. -/
theorem keys_at (x : FVec Ideal S512x1024 .f32) (w : FVec Ideal S1024x1024 .f32) (b : FVec Ideal S1x1024 .f32) (j : Fin 1024) (i : Fin 512) :
    k0_pay1 (F := Ideal) x w b (ix2 j i) = ∑ a : Fin 1024, x (ix2 i a) * w (ix2 a j) + b (ix2 0 j) := by
  pointwise [k0_pay1]

/-- The first call's values at an index: memory row `i` against column `64 h + e`, plus the bias. -/
theorem values_at (x : FVec Ideal S512x1024 .f32) (w : FVec Ideal S1024x1024 .f32) (b : FVec Ideal S1x1024 .f32) (h : Fin 16) (i : Fin 512) (e : Fin 64) :
    k0_pay2 (F := Ideal) x w b (ix3 h i e)
      = ∑ a : Fin 1024, x (ix2 i a) * w (ix2 a ⟨h.val * 64 + e.val, by omega⟩) + b (ix2 0 ⟨h.val * 64 + e.val, by omega⟩) := by
  pointwise [k0_pay2]

/-- The second call's block at an index: `attend` of the projected query row. -/
theorem block_at (x : FVec Ideal S2x512x1024 .f32) (wq : FVec Ideal S1024x1024 .f32) (bq : FVec Ideal S1x1024 .f32) (kt : FVec Ideal S1024x512 .bf16)
    (v3 : FVec Ideal S16x512x64 .bf16) (wo : FVec Ideal S1024x1024 .bf16) (bo : FVec Ideal S1x1024 .f32) (a : Fin 2) (s : Fin 512) (d : Fin 1024) :
    k1_pay1 (F := Ideal) (k1_pay2 (F := Ideal) x wq bq kt v3 wo bo) (ix3 a s d)
      = attend (fun j => ∑ l : Fin 1024, x (ix3 a s l) * wq (ix2 l j) + bq (ix2 0 j)) kt v3 wo bo d := by
  pointwise [k1_pay1, k1_pay2, attend, score]

end Cert.KernelIdeal.Block

end
-- ==== Proof.Regions.lean ====
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Block

variable (V : (c : Dev nD) → (b : Ref sig .tc) → Buf (Elt Ideal) ((c : Thread nD τ).loc b))

/-- The first call's windows: each operand whole, at block index zero. -/
theorem idx0 : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

/-- The first call leaves the transposed keys of the memory. -/
theorem keys_final (c : Dev nD) : (dat0 V c).arrAt 5 cfg0.N = k0_pay1 (F := Ideal) (V c main_arg1) (V c main_arg4) (V c main_v1) := by
  refine (dat0 V c).arrAt_eq_of_after_last 5 t0_0 (by decide +kernel) _ fun j => ?_
  blk_simp
  rw [after0_5]
  frame_out
  blk_point [iblk0, idx0 t0_0]

/-- The first call leaves the memory's values, one head after another. -/
theorem values_final (c : Dev nD) : (dat0 V c).arrAt 6 cfg0.N = k0_pay2 (F := Ideal) (V c main_arg1) (V c main_arg6) (V c main_v2) := by
  refine (dat0 V c).arrAt_eq_of_after_last 6 t0_0 (by decide +kernel) _ fun j => ?_
  blk_simp
  rw [after0_6]
  frame_out
  blk_point [iblk0, idx0 t0_0]

/-- The second call's windows: batch entries two at a time, every other operand whole. -/
theorem idx : ∀ t : Fin cfg1.N, win1_0.index t = ![t.val, 0, 0] ∧ win1_1.index t = ![0, 0] ∧ win1_2.index t = ![0, 0] ∧ win1_3.index t = ![0, 0]
    ∧ win1_4.index t = ![0, 0, 0] ∧ win1_5.index t = ![0, 0] ∧ win1_6.index t = ![0, 0] ∧ win1_7.index t = ![t.val, 0, 0] :=
  (by decide +kernel : ∀ t : Fin grid1.N, _)

/-- What the second call computes from its whole operands. -/
def attended (X : FVec Ideal S32x512x1024 .f32) (wq : FVec Ideal S1024x1024 .f32) (bq : FVec Ideal S1x1024 .f32) (kt : FVec Ideal S1024x512 .bf16)
    (v3 : FVec Ideal S16x512x64 .bf16) (wo : FVec Ideal S1024x1024 .bf16) (bo : FVec Ideal S1x1024 .f32) : FVec Ideal S32x512x1024 .f32 :=
  fun i => attend (fun j => ∑ l : Fin 1024, X (ix3 (i 0) (i 1) l) * wq (ix2 l j) + bq (ix2 0 j)) kt v3 wo bo (i 2)

/-- The second call leaves `attended` of its operands as it finds them. -/
theorem attended_final (c : Dev nD) : (dat1 V c).arrAt 7 cfg1.N
    = attended (V c main_arg0) (V c main_arg2) (V c main_v0) (V c main_v4_0) (V c main_v4_1) (V c main_v5) (V c main_v3) := by
  refine (dat1 V c).arrAt_eq_of_covers 7 _ (by decide +kernel) fun t _ y => ?_
  blk_simp
  rw [after1_7]
  frame_out
  pointwise [k1_pay1, k1_pay2, attended, attend, score]
  blk_point [iblk1, idx t]

end Cert.KernelIdeal.Regions

end
-- ==== Proof.Run.lean ====
module

public import proofs.«01_k».proof.Proof.Regions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Block Cert.KernelIdeal.Regions

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the idealized kernel ends with each array at the last boundary's contents. -/
theorem run_all : θ_run (defs (F := Ideal)) (onTc (τ := τ) (main (F := Ideal))) ⟨m, fun _ => 0, ρ⟩
    (fun r => ∀ (c : Dev nD), ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The kernel's result array in terms of its arguments. -/
def result (c : Dev nD) : FVec Ideal S32x512x1024 .f32 :=
  attended (m ((c.tc : Thread nD τ).loc main_arg0)) (m ((c.tc : Thread nD τ).loc main_arg2))
    (shapeCast S1x1024 (m ((c.tc : Thread nD τ).loc main_arg3)) shapeCasts_S1024_S1x1024)
    (k0_pay1 (F := Ideal) (m ((c.tc : Thread nD τ).loc main_arg1)) (m ((c.tc : Thread nD τ).loc main_arg4))
      (shapeCast S1x1024 (m ((c.tc : Thread nD τ).loc main_arg5)) shapeCasts_S1024_S1x1024))
    (k0_pay2 (F := Ideal) (m ((c.tc : Thread nD τ).loc main_arg1)) (m ((c.tc : Thread nD τ).loc main_arg6))
      (shapeCast S1x1024 (m ((c.tc : Thread nD τ).loc main_arg7)) shapeCasts_S1024_S1x1024))
    (m ((c.tc : Thread nD τ).loc main_arg8))
    (shapeCast S1x1024 (m ((c.tc : Thread nD τ).loc main_arg9)) shapeCasts_S1024_S1x1024)

/-- A bias row is read from neither region's outputs nor the second host line: what the first host line made of it stays. -/
theorem kept (c : Dev nD) (r : Ref sig .tc) (h : ∀ w : Fin cfg0.W, Pipeline.arrRef spec0 w = r → (cfg0.win w).isOut = false) (h' : r ∉ hostOps1_W) :
    W3 m ρ c (Proc.devRef .tc r) = W1 m ρ c (Proc.devRef .tc r) :=
  (W3_of m ρ c r h').trans (W2_of m ρ c r h)

/-- The query bias, as the first host line lays it out: one row. -/
theorem row_q (c : Dev nD) : V1 m ρ c main_v0 = shapeCast S1x1024 (m ((c.tc : Thread nD τ).loc main_arg3)) shapeCasts_S1024_S1x1024 := by
  unfold V1 W1 hostOps0
  after_results
  rfl

/-- The key bias, as the first host line lays it out: one row. -/
theorem row_k (c : Dev nD) : V1 m ρ c main_v1 = shapeCast S1x1024 (m ((c.tc : Thread nD τ).loc main_arg5)) shapeCasts_S1024_S1x1024 := by
  unfold V1 W1 hostOps0
  after_results
  rfl

/-- The value bias, as the first host line lays it out: one row. -/
theorem row_v (c : Dev nD) : V1 m ρ c main_v2 = shapeCast S1x1024 (m ((c.tc : Thread nD τ).loc main_arg7)) shapeCasts_S1024_S1x1024 := by
  unfold V1 W1 hostOps0
  after_results
  rfl

/-- The output bias, as the first host line lays it out: one row. -/
theorem row_o (c : Dev nD) : V1 m ρ c main_v3 = shapeCast S1x1024 (m ((c.tc : Thread nD τ).loc main_arg9)) shapeCasts_S1024_S1x1024 := by
  unfold V1 W1 hostOps0
  after_results
  rfl

/-- The output projection the second call reads is the argument: the cast between widths is the identity on the extended reals. -/
theorem proj_o (c : Dev nD) : V3 m ρ c main_v5 = m ((c.tc : Thread nD τ).loc main_arg8) := by
  have h := W2_args m ρ c main_arg8 (by decide)
  unfold V3 W3 hostOps1
  after_results
  exact h

/-- The keys the second call reads: the transposed key projection of the memory. -/
theorem keys (c : Dev nD) : V3 m ρ c main_v4_0 = k0_pay1 (F := Ideal) (m ((c.tc : Thread nD τ).loc main_arg1)) (m ((c.tc : Thread nD τ).loc main_arg4))
    (shapeCast S1x1024 (m ((c.tc : Thread nD τ).loc main_arg5)) shapeCasts_S1024_S1x1024) := by
  have h1 : V1 m ρ c main_arg1 = m ((c.tc : Thread nD τ).loc main_arg1) := W1_args m ρ c main_arg1 (by decide)
  have h4 : V1 m ρ c main_arg4 = m ((c.tc : Thread nD τ).loc main_arg4) := W1_args m ρ c main_arg4 (by decide)
  rw [← row_k m ρ c, ← h1, ← h4, ← keys_final (V1 m ρ) c]
  exact (W3_of m ρ c main_v4_0 (by decide)).trans (W2_arr m ρ c 5)

/-- The values the second call reads: the value projection of the memory, head by head. -/
theorem vals (c : Dev nD) : V3 m ρ c main_v4_1 = k0_pay2 (F := Ideal) (m ((c.tc : Thread nD τ).loc main_arg1)) (m ((c.tc : Thread nD τ).loc main_arg6))
    (shapeCast S1x1024 (m ((c.tc : Thread nD τ).loc main_arg7)) shapeCasts_S1024_S1x1024) := by
  have h1 : V1 m ρ c main_arg1 = m ((c.tc : Thread nD τ).loc main_arg1) := W1_args m ρ c main_arg1 (by decide)
  have h6 : V1 m ρ c main_arg6 = m ((c.tc : Thread nD τ).loc main_arg6) := W1_args m ρ c main_arg6 (by decide)
  rw [← row_v m ρ c, ← h1, ← h6, ← values_final (V1 m ρ) c]
  exact (W3_of m ρ c main_v4_1 (by decide)).trans (W2_arr m ρ c 6)

/-- The array the kernel returns holds `result` at the last boundary. -/
theorem last_eq (c : Dev nD) : W4 m ρ c (Proc.devRef .tc main_v6) = result m c := by
  refine (W4_arr m ρ c 7).trans ?_
  rw [attended_final (V3 m ρ) c, keys, vals, proj_o]
  have h0 : V3 m ρ c main_arg0 = m ((c.tc : Thread nD τ).loc main_arg0) := W3_args m ρ c main_arg0 (by decide)
  have h2 : V3 m ρ c main_arg2 = m ((c.tc : Thread nD τ).loc main_arg2) := W3_args m ρ c main_arg2 (by decide)
  have hq : V3 m ρ c main_v0 = _ := (kept m ρ c main_v0 (by decide) (by decide)).trans (row_q m ρ c)
  have ho : V3 m ρ c main_v3 = _ := (kept m ρ c main_v3 (by decide) (by decide)).trans (row_o m ρ c)
  rw [h0, h2, hq, ho]
  rfl

/-- Every execution of the idealized kernel ends with the returned array at `result` and every argument as launched. -/
theorem run : θ_run (defs (F := Ideal)) (onTc (τ := τ) (main (F := Ideal))) ⟨m, fun _ => 0, ρ⟩ (fun r => ∀ c : Dev nD,
    r.2.mem ((c.tc : Thread nD τ).loc main_v6) = result m c
    ∧ ∀ a ∈ argRefs, r.2.mem ((c.tc : Thread nD τ).loc a) = m ((c.tc : Thread nD τ).loc a)) :=
  θ_run_mono (run_all m ρ) fun r h c => ⟨(h c _ (mem_uc main_v6 (by decide))).trans (last_eq m ρ c), fun a ha =>
    (h c _ (mem_uc a (ListAll.forall_mem_of_all_decide (l := argRefs) (p := fun a : Ref sig .tc => ¬ (Proc.devRef .tc a : DevRef τ sig).isScoped) (by decide) a ha))).trans (W4_args m ρ c a ha)⟩

end Cert.KernelIdeal.Run

end
-- ==== Proof.RefValue.lean ====
module

public import proofs.«01_k».proof.Proof.Gen.ReferenceIdeal
public import Idealize.ShloMosaic.Lib.Pointwise

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen

/-- A bias laid along the last axis of every row. -/
def bias (b : FVec Ideal S1024 .f32) : FVec Ideal S32x512x1024 .f32 :=
  broadcastInDim S32x512x1024 ![0, 1, 2] bcast_S1x1x1024_S32x512x1024_0_1_2 (broadcastInDim S1x1x1024 ![2] bcast_S1024_S1x1x1024_2 b)

/-- The memory repeated for every batch entry. -/
def everywhere (M : FVec Ideal S512x1024 .f32) : FVec Ideal S32x512x1024 .f32 :=
  broadcastInDim S32x512x1024 ![0, 1, 2] bcast_S1x512x1024_S32x512x1024_0_1_2 (broadcastInDim S1x512x1024 ![1, 2] bcast_S512x1024_S1x512x1024_1_2 M)

/-- A projection split into sixteen heads of width sixty-four, the head axis moved in front of the rows. -/
def heads (X : FVec Ideal S32x512x1024 .f32) (W : FVec Ideal S1024x1024 .f32) (b : FVec Ideal S1024 .f32) : FVec Ideal S32x16x512x64 .f32 :=
  transpose S32x16x512x64 [0, 2, 1, 3] (shapeCast S32x512x16x64 (addf (Host.dotGeneral (F := Ideal) dot_S32x512x1024_S1024x1024_S32x512x1024_2_0_01_1_n_n none X W) (bias b)) shapeCasts_S32x512x1024_S32x512x16x64) transposes_S32x512x16x64_S32x16x512x64_0_2_1_3

/-- Scaled scores: queries against keys, over the square root of the head width. -/
def scores (Q K : FVec Ideal S32x16x512x64 .f32) : FVec Ideal S32x16x512x512 .f32 :=
  Host.divf (Host.dotGeneral (F := Ideal) dot_S32x16x512x64_S32x16x512x64_S32x16x512x512_3_3_2_2_01_01 none Q K) (broadcastInDim S32x16x512x512 ![] bcast_S_S32x16x512x512 (Host.sqrt (constant S_ .f32 0x42800000#32)))

/-- The exponentials of the scores less their row's maximum. -/
def shifted (S : FVec Ideal S32x16x512x512 .f32) : FVec Ideal S32x16x512x512 .f32 :=
  Host.exp (subf S (broadcastInDim S32x16x512x512 ![0, 1, 2, 3] bcast_S32x16x512x1_S32x16x512x512_0_1_2_3 (broadcastInDim S32x16x512x1 ![0, 1, 2] bcast_S32x16x512_S32x16x512x1_0_1_2 (maximumf (broadcastInDim S32x16x512 ![] bcast_S_S32x16x512 (constant S_ .f32 0xFF800000#32)) (Host.reduce FloatOps.maximumf S (constant S_ .f32 0xFF800000#32) reducesTo_S32x16x512x512_S32x16x512_d3 h_S_)))))

/-- The softmax weights: each shifted exponential over its row's sum. -/
def weights (E : FVec Ideal S32x16x512x512 .f32) : FVec Ideal S32x16x512x512 .f32 :=
  Host.divf E (broadcastInDim S32x16x512x512 ![0, 1, 2, 3] bcast_S32x16x512x1_S32x16x512x512_0_1_2_3 (broadcastInDim S32x16x512x1 ![0, 1, 2] bcast_S32x16x512_S32x16x512x1_0_1_2 (Host.reduceAdd E (constant S_ .f32 0x00000000#32) reducesTo_S32x16x512x512_S32x16x512_d3 h_S_)))

/-- The output projection of the weighted values, heads laid back side by side. -/
def output (A : FVec Ideal S32x16x512x512 .f32) (V : FVec Ideal S32x16x512x64 .f32) (Wo : FVec Ideal S1024x1024 .f32) (bo : FVec Ideal S1024 .f32) : FVec Ideal S32x512x1024 .f32 :=
  addf (Host.dotGeneral (F := Ideal) dot_S32x512x1024_S1024x1024_S32x512x1024_2_0_01_1_n_n none (shapeCast S32x512x1024 (transpose S32x512x16x64 [0, 2, 1, 3] (Host.dotGeneral (F := Ideal) dot_S32x16x512x512_S32x16x512x64_S32x16x512x64_3_2_2_3_01_01 none A V) transposes_S32x16x512x64_S32x512x16x64_0_2_1_3) shapeCasts_S32x512x16x64_S32x512x1024) Wo) (bias bo)

/-- The reference: multi-head cross attention of the queries over the memory. -/
def REF (X : FVec Ideal S32x512x1024 .f32) (M : FVec Ideal S512x1024 .f32) (Wq : FVec Ideal S1024x1024 .f32) (bq : FVec Ideal S1024 .f32) (Wk : FVec Ideal S1024x1024 .f32) (bk : FVec Ideal S1024 .f32)
    (Wv : FVec Ideal S1024x1024 .f32) (bv : FVec Ideal S1024 .f32) (Wo : FVec Ideal S1024x1024 .f32) (bo : FVec Ideal S1024 .f32) : FVec Ideal S32x512x1024 .f32 :=
  output (weights (shifted (scores (heads X Wq bq) (heads (everywhere M) Wk bk)))) (heads (everywhere M) Wv bv) Wo bo

/-- A head's projection at an index: row `i` against column `64 h + e`, plus the bias there. -/
theorem heads_at (X : FVec Ideal S32x512x1024 .f32) (W : FVec Ideal S1024x1024 .f32) (b : FVec Ideal S1024 .f32) (p : Fin 32) (h : Fin 16) (i : Fin 512) (e : Fin 64) :
    heads X W b (ix4 p h i e) = ∑ a : Fin 1024, X (ix3 p i a) * W (ix2 a ⟨h.val * 64 + e.val, by omega⟩) + b (ix1 ⟨h.val * 64 + e.val, by omega⟩) := by
  pointwise [heads, bias]

/-- The repeated memory at an index. -/
theorem everywhere_at (M : FVec Ideal S512x1024 .f32) (p : Fin 32) (i : Fin 512) (a : Fin 1024) :
    everywhere M (ix3 p i a) = M (ix2 i a) := by
  pointwise [everywhere]

/-- A scaled score at an index: the inner product over one head's sixty-four columns, over the root. -/
theorem scores_at (Q K : FVec Ideal S32x16x512x64 .f32) (p : Fin 32) (h : Fin 16) (i k : Fin 512) :
    scores Q K (ix4 p h i k) = Ideal.div (∑ e : Fin 64, Q (ix4 p h i e) * K (ix4 p h k e)) (Ideal.sqrt (Ideal.ofBits .f32 0x42800000#32)) := by
  pointwise [scores]

/-- A maximum along the last of four axes, at any extents, read at an index. -/
theorem max_last_at {n0 n1 n2 n3 : ℕ} {u : Shape} (S : FVec Ideal ⟨4, ![n0, n1, n2, n3]⟩ .f32) (z : FVec Ideal u .f32)
    (hr : (⟨4, ![n0, n1, n2, n3]⟩ : Shape).ReducesTo [3] ⟨3, ![n0, n1, n2]⟩) (hu : 0 < u.numel) (p : Fin n0) (h : Fin n1) (i : Fin n2) :
    Host.reduce FloatOps.maximumf S z hr hu (ix3 p h i) = Finset.univ.fold max (z (Shape.Idx.first hu)) fun k : Fin n3 => S (ix4 p h i k) := by
  rw [Ideal.maximumf_eq_max]
  exact (Host.reduce_eq_fold max S z hr hu _).trans (hr.fold_fiber_r4_a3 _ max _ S)

/-- The exponentials at an index, the row maxima given as an array. -/
theorem shifted_of (S : FVec Ideal S32x16x512x512 .f32) (R : FVec Ideal S32x16x512 .f32) (p : Fin 32) (h : Fin 16) (i k : Fin 512) :
    Host.exp (subf S (broadcastInDim S32x16x512x512 ![0, 1, 2, 3] bcast_S32x16x512x1_S32x16x512x512_0_1_2_3 (broadcastInDim S32x16x512x1 ![0, 1, 2] bcast_S32x16x512_S32x16x512x1_0_1_2 (maximumf (broadcastInDim S32x16x512 ![] bcast_S_S32x16x512 (constant S_ .f32 0xFF800000#32)) R)))) (ix4 p h i k)
      = Ideal.exp (S (ix4 p h i k) - max (Ideal.ofBits .f32 0xFF800000#32) (R (ix3 p h i))) := by
  pointwise

/-- The shifted exponential of a score at an index: its row's maximum, started from minus infinity, comes off. -/
theorem shifted_at (S : FVec Ideal S32x16x512x512 .f32) (p : Fin 32) (h : Fin 16) (i k : Fin 512) :
    shifted S (ix4 p h i k) = Ideal.exp (S (ix4 p h i k)
      - max (Ideal.ofBits .f32 0xFF800000#32) (Finset.univ.fold max (Ideal.ofBits .f32 0xFF800000#32) fun l : Fin 512 => S (ix4 p h i l))) := by
  unfold shifted
  rw [shifted_of, max_last_at]
  pointwise

/-- A weight at an index. -/
theorem weights_at (E : FVec Ideal S32x16x512x512 .f32) (p : Fin 32) (h : Fin 16) (i k : Fin 512) :
    weights E (ix4 p h i k) = Ideal.div (E (ix4 p h i k)) (∑ l : Fin 512, E (ix4 p h i l)) := by
  pointwise [weights]

/-- The output at an index: output column `d` of all heads' weighted values, column `j` belonging to head `j / 64`. -/
theorem output_at (A : FVec Ideal S32x16x512x512 .f32) (V : FVec Ideal S32x16x512x64 .f32) (Wo : FVec Ideal S1024x1024 .f32) (bo : FVec Ideal S1024 .f32) (p : Fin 32) (i : Fin 512) (d : Fin 1024) :
    output A V Wo bo (ix3 p i d)
      = ∑ j : Fin 1024, (∑ k : Fin 512, A (ix4 p ⟨j.val / 64, by omega⟩ i k) * V (ix4 p ⟨j.val / 64, by omega⟩ k ⟨j.val % 64, by omega⟩)) * Wo (ix2 j d) + bo (ix1 d) := by
  pointwise [output, bias]

end Cert.ReferenceIdeal.RefValue

end
-- ==== Proof.RefResult.lean ====
module

public import proofs.«01_k».proof.Proof.RefValue
public import proofs.«01_k».proof.Proof.Gen.ReferenceIdeal.Run

@[expose] public section

set_option maxRecDepth 16384

noncomputable section

namespace Cert.ReferenceIdeal.RefValue

open Idealize.ShloMosaic Idealize.ShloMosaic.TcCoe Idealize.SL.Sem
open Cert.ReferenceIdeal Cert.ReferenceIdeal.Gen

variable (m : (ℓ : Loc nD τ sig) → Buf (Elt Ideal) ℓ)

/-- The result the reference's run leaves is `REF` of its argument arrays. -/
theorem result_eq (c : Dev nD) : Value.res_out0 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_out0 Value.res_main_v41 REF output weights shifted scores heads everywhere bias
  rfl

end Cert.ReferenceIdeal.RefValue

end
-- ==== Proof.Softmax.lean ====
module

public import Idealize.ShloMosaic.PureOps.Ideal
public import Idealize.ShloMosaic.PureOps.Ideal.Laws
public import Mathlib.Data.EReal.Inv
public import Mathlib.Analysis.SpecialFunctions.Exp
public import Mathlib.Algebra.BigOperators.Field

@[expose] public section

noncomputable section

namespace Cert.Softmax

open Idealize.ShloMosaic

/-- A finite sum of real numbers, taken in the extended reals, is the real sum. -/
theorem sum_real {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A nonnegative real factor moves into a finite sum of extended reals, infinite terms included. -/
theorem sum_mul_real {ι : Type} (t : Finset ι) (f : ι → EReal) {r : ℝ} (hr : 0 ≤ r) :
    (∑ i ∈ t, f i) * ((r : ℝ) : EReal) = ∑ i ∈ t, f i * ((r : ℝ) : EReal) := by
  classical
  induction t using Finset.induction_on with
  | empty => simp
  | insert a t ha ih =>
    rw [Finset.sum_insert ha, Finset.sum_insert ha,
      EReal.right_distrib_of_nonneg_of_ne_top (EReal.coe_nonneg.2 hr) (EReal.coe_ne_top r), ih]

/-- The greatest of a nonempty finite family of reals, started from minus infinity, is a real. -/
theorem fold_max_real {ι : Type} (t : Finset ι) (ht : t.Nonempty) (f : ι → ℝ) :
    ∃ M : ℝ, t.fold max (⊥ : EReal) (fun i => ((f i : ℝ) : EReal)) = ((M : ℝ) : EReal) := by
  classical
  induction ht using Finset.Nonempty.cons_induction with
  | singleton a => exact ⟨f a, by simp⟩
  | cons a t ha _ ih =>
    obtain ⟨M, hM⟩ := ih
    exact ⟨max (f a) M, by rw [Finset.fold_cons, hM]; exact (EReal.coe_strictMono.monotone.map_max).symm⟩

/-- Softmax weights do not depend on the shift: for real scores `s` and any real shift `M`, averaging arbitrary extended
    reals `v` with the weights `exp (s − M) / ∑ exp (s − M)` is the sum of `exp s · v` divided once by `∑ exp s`. -/
theorem average_shift {n : ℕ} (hn : 0 < n) (s : Fin n → ℝ) (M : ℝ) (v : Fin n → EReal) :
    ∑ k, Ideal.div (Ideal.exp ((s k : EReal) - (M : EReal))) (∑ l, Ideal.exp ((s l : EReal) - (M : EReal))) * v k
      = Ideal.div (∑ k, Ideal.exp (s k : EReal) * v k) (∑ k, Ideal.exp (s k : EReal)) := by
  haveI : Nonempty (Fin n) := ⟨⟨0, hn⟩⟩
  have hpos : 0 < ∑ k, Real.exp (s k) := Finset.sum_pos (fun k _ => Real.exp_pos _) Finset.univ_nonempty
  have hposM : 0 < ∑ k, Real.exp (s k - M) := Finset.sum_pos (fun k _ => Real.exp_pos _) Finset.univ_nonempty
  have hsum : ∑ k, Real.exp (s k - M) = (∑ k, Real.exp (s k)) * Real.exp (-M) := by
    rw [Finset.sum_mul]; exact Finset.sum_congr rfl fun k _ => by rw [← Real.exp_add, sub_eq_add_neg]
  have hexp : ∀ r : ℝ, Ideal.exp (r : EReal) = ((Real.exp r : ℝ) : EReal) := fun _ => rfl
  simp only [← EReal.coe_sub, hexp, sum_real]
  rw [Ideal.div_coe hpos.ne', sum_mul_real _ _ (by positivity)]
  refine Finset.sum_congr rfl fun k _ => ?_
  rw [Ideal.div_coe hposM.ne', ← EReal.coe_mul, mul_right_comm, ← EReal.coe_mul, hsum]
  congr 2
  rw [sub_eq_add_neg, Real.exp_add]
  have := (Real.exp_pos (-M)).ne'
  field_simp

/-- The kernel's constant one eighth. -/
theorem ofBits_eighth : Ideal.ofBits .f32 0x3E000000#32 = (((1 : ℝ) / 8 : ℝ) : EReal) := by
  simp [Ideal.ofBits, Ideal.ieee, -EReal.coe_mul]; norm_num

/-- The reference's constant sixty-four. -/
theorem ofBits_sixtyfour : Ideal.ofBits .f32 0x42800000#32 = ((64 : ℝ) : EReal) := by
  simp [Ideal.ofBits, Ideal.ieee, -EReal.coe_mul]; norm_num

/-- Minus infinity, where the reference starts its maximum. -/
theorem ofBits_bot : Ideal.ofBits .f32 0xFF800000#32 = (⊥ : EReal) := by
  simp [Ideal.ofBits, Ideal.ieee]

/-- The reference's divisor, the square root of the head width, is eight. -/
theorem sqrt_sixtyfour : Ideal.sqrt (Ideal.ofBits .f32 0x42800000#32) = ((8 : ℝ) : EReal) := by
  rw [ofBits_sixtyfour, Ideal.sqrt_coe, if_neg (by norm_num), show (64 : ℝ) = 8 ^ 2 by norm_num, Real.sqrt_sq (by norm_num)]

/-- One score both ways: scaling every query number by one eighth before the inner product with the keys, or dividing the
    inner product by the square root of sixty-four, is the same real number. -/
theorem score_real {n : ℕ} (q k : Fin n → ℝ) :
    ∑ e, ((q e : EReal) * Ideal.ofBits .f32 0x3E000000#32) * (k e : EReal) = (((∑ e, q e * k e) / 8 : ℝ) : EReal)
    ∧ Ideal.div (∑ e, (q e : EReal) * (k e : EReal)) (Ideal.sqrt (Ideal.ofBits .f32 0x42800000#32))
        = (((∑ e, q e * k e) / 8 : ℝ) : EReal) := by
  rw [ofBits_eighth, sqrt_sixtyfour, Ideal.div_coe (by norm_num : (8 : ℝ) ≠ 0)]
  simp only [← EReal.coe_mul, sum_real]
  refine ⟨?_, ?_⟩ <;> congr 1
  · rw [Finset.sum_div]; exact Finset.sum_congr rfl fun e _ => by ring
  · ring

/-- One head's output number, kernel against reference: queries `q` and keys `k` real, values `v` arbitrary. -/
theorem head_eq {n d : ℕ} (hn : 0 < n) (q : Fin d → EReal) (k : Fin n → Fin d → EReal) (v : Fin n → EReal)
    (hq : ∀ e, ∃ r : ℝ, q e = r) (hk : ∀ i e, ∃ r : ℝ, k i e = r) :
    Ideal.div (∑ i, Ideal.exp (∑ e, (q e * Ideal.ofBits .f32 0x3E000000#32) * k i e) * v i)
        (∑ i, Ideal.exp (∑ e, (q e * Ideal.ofBits .f32 0x3E000000#32) * k i e))
      = ∑ i, Ideal.div
          (Ideal.exp (Ideal.div (∑ e, q e * k i e) (Ideal.sqrt (Ideal.ofBits .f32 0x42800000#32))
            - max (Ideal.ofBits .f32 0xFF800000#32) (Finset.univ.fold max (Ideal.ofBits .f32 0xFF800000#32)
                fun i => Ideal.div (∑ e, q e * k i e) (Ideal.sqrt (Ideal.ofBits .f32 0x42800000#32)))))
          (∑ l, Ideal.exp (Ideal.div (∑ e, q e * k l e) (Ideal.sqrt (Ideal.ofBits .f32 0x42800000#32))
            - max (Ideal.ofBits .f32 0xFF800000#32) (Finset.univ.fold max (Ideal.ofBits .f32 0xFF800000#32)
                fun i => Ideal.div (∑ e, q e * k i e) (Ideal.sqrt (Ideal.ofBits .f32 0x42800000#32))))) * v i := by
  choose q' hq' using hq
  choose k' hk' using hk
  haveI : Nonempty (Fin n) := ⟨⟨0, hn⟩⟩
  obtain ⟨M, hM⟩ := fold_max_real Finset.univ Finset.univ_nonempty fun i => (∑ e, q' e * k' i e) / 8
  simp only [hq', hk', fun i => (score_real q' (k' i)).1, fun i => (score_real q' (k' i)).2, ofBits_bot, hM]
  rw [max_eq_right bot_le]
  exact (average_shift hn _ M v).symm

end Cert.Softmax

end
-- ==== Proof.Equation.lean ====
module

public import proofs.«01_k».proof.Defs
public import proofs.«01_k».proof.Proof.Softmax
public import proofs.«01_k».proof.Proof.RefValue
public import proofs.«01_k».proof.Proof.Regions
public import Idealize.ShloMosaic.Lib.Pointwise

@[expose] public section

set_option maxRecDepth 16384

noncomputable section

namespace Cert.Equation

open Idealize.ShloMosaic Idealize.ShloMosaic.TcCoe Idealize.SL.Sem
open Cert.KernelIdeal Cert.KernelIdeal.Gen Cert.KernelIdeal.Block Cert.KernelIdeal.Regions
open Cert.ReferenceIdeal.RefValue

/-- Every element of an array of extended reals is a real number. -/
def Reals {s : Shape} {φ : FTy} (x : FVec Ideal s φ) : Prop := ∀ i, ∃ r : ℝ, (x i : EReal) = r

/-- An extended real whose absolute value is below plus infinity is a real number. -/
theorem real_of_abs_lt {x : EReal} (h : max x (-x) < ⊤) : ∃ r : ℝ, x = r := by
  rw [max_lt_iff] at h
  refine ⟨x.toReal, (EReal.coe_toReal h.1.ne ?_).symm⟩
  rintro rfl
  simp at h

/-- The printed test "absolute value below plus infinity", all ones, says every element is real. -/
theorem reals_of_test {s u : Shape} {φ : Fin u.rank → Fin s.rank} (x : FVec Ideal s .f32) (hb : u.BroadcastsInDim s φ)
    (h : cmpf .olt (Host.absf x) (broadcastInDim s φ hb (constant u .f32 0x7F800000#32)) = fun _ => 1#1) : Reals x := by
  have htop : Ideal.ofBits .f32 0x7F800000#32 = ⊤ := by simp [Ideal.ofBits, Ideal.ieee]
  intro i
  have hi : Ideal.cmp .olt (max (x i : EReal) (-(x i : EReal))) (Ideal.ofBits .f32 0x7F800000#32) = 1#1 := congrFun h i
  rw [htop] at hi
  refine real_of_abs_lt ?_
  by_contra hn
  simp [Ideal.cmp, hn] at hi

/-- A finite inner product of reals plus a real is real. -/
theorem inner_real {n : ℕ} {f g : Fin n → EReal} {b : EReal} (hf : ∀ a, ∃ r : ℝ, f a = r) (hg : ∀ a, ∃ r : ℝ, g a = r) (hb : ∃ r : ℝ, b = r) :
    ∃ r : ℝ, ∑ a, f a * g a + b = r := by
  choose f' hf using hf
  choose g' hg using hg
  obtain ⟨b', hb⟩ := hb
  refine ⟨∑ a, f' a * g' a + b', ?_⟩
  rw [EReal.coe_add, ← Softmax.sum_real, hb]
  simp only [hf, hg, EReal.coe_mul]

/-- A bias laid out as one row, read at its column. -/
theorem row_at (b : FVec Ideal S1024 .f32) (j : Fin 1024) : shapeCast S1x1024 b shapeCasts_S1024_S1x1024 (ix2 0 j) = b (ix1 j) := by
  pointwise

/-- The kernel's two calls compute the reference, when everything that enters the scores is real. -/
theorem attended_eq (X : FVec Ideal S32x512x1024 .f32) (M : FVec Ideal S512x1024 .f32) (Wq : FVec Ideal S1024x1024 .f32) (bq : FVec Ideal S1024 .f32)
    (Wk : FVec Ideal S1024x1024 .f32) (bk : FVec Ideal S1024 .f32) (Wv : FVec Ideal S1024x1024 .f32) (bv : FVec Ideal S1024 .f32)
    (Wo : FVec Ideal S1024x1024 .f32) (bo : FVec Ideal S1024 .f32)
    (hX : Reals X) (hM : Reals M) (hWq : Reals Wq) (hbq : Reals bq) (hWk : Reals Wk) (hbk : Reals bk) :
    attended X Wq (shapeCast S1x1024 bq shapeCasts_S1024_S1x1024) (k0_pay1 (F := Ideal) M Wk (shapeCast S1x1024 bk shapeCasts_S1024_S1x1024))
      (k0_pay2 (F := Ideal) M Wv (shapeCast S1x1024 bv shapeCasts_S1024_S1x1024)) Wo (shapeCast S1x1024 bo shapeCasts_S1024_S1x1024)
      = REF X M Wq bq Wk bk Wv bv Wo bo := by
  suffices h : ∀ (p : Fin 32) (s : Fin 512) (d : Fin 1024), attended X Wq (shapeCast S1x1024 bq shapeCasts_S1024_S1x1024)
      (k0_pay1 (F := Ideal) M Wk (shapeCast S1x1024 bk shapeCasts_S1024_S1x1024)) (k0_pay2 (F := Ideal) M Wv (shapeCast S1x1024 bv shapeCasts_S1024_S1x1024))
      Wo (shapeCast S1x1024 bo shapeCasts_S1024_S1x1024) (ix3 p s d) = REF X M Wq bq Wk bk Wv bv Wo bo (ix3 p s d) by
    funext i
    exact (congrArg _ (eq_ix3 i)).trans ((h (i 0) (i 1) (i 2)).trans (congrArg _ (eq_ix3 i).symm))
  intro p s d
  unfold REF
  refine Eq.trans ?_ (output_at _ _ _ _ p s d).symm
  show attend _ _ _ _ _ d = _
  unfold attend
  refine congrArg₂ (· + ·) (Finset.sum_congr rfl fun j _ => congrArg (· * Wo (ix2 j d)) ?_) (row_at bo d)
  simp only [score, keys_at, values_at, row_at, weights_at, shifted_at, scores_at, heads_at, everywhere_at]
  exact Softmax.head_eq (n := 512) (d := 64) (by norm_num)
    (fun e => ∑ a : Fin 1024, X (ix3 p s a) * Wq (ix2 a ⟨j.val / 64 * 64 + e.val, by omega⟩) + bq (ix1 ⟨j.val / 64 * 64 + e.val, by omega⟩))
    (fun k e => ∑ a : Fin 1024, M (ix2 k a) * Wk (ix2 a ⟨j.val / 64 * 64 + e.val, by omega⟩) + bk (ix1 ⟨j.val / 64 * 64 + e.val, by omega⟩))
    _ (fun e => inner_real (fun a => hX _) (fun a => hWq _) (hbq _)) (fun k e => inner_real (fun a => hM _) (fun a => hWk _) (hbk _))

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RefResult
public import proofs.«01_k».proof.Proof.Equation
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The shape relations the precondition's operations take. -/
theorem preFacts : Cert.Pre_finite_scores.Facts := ⟨by decide, by decide, by decide, by decide⟩

/-- Every execution of the reference ends with its arguments as launched and its counters at zero. -/
theorem reference_frame : quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

/-- Under the precondition the kernel's result is the reference's, as arrays of extended reals. -/
theorem value_eq (m : (ℓ : Loc Cert.KernelIdeal.nD Cert.KernelIdeal.τ Cert.KernelIdeal.sig) → Buf (Elt Ideal) ℓ)
    (hpre : Pre_KernelIdeal_finite_scores (hPre_finite_scores := preFacts) m) (c : Dev Cert.KernelIdeal.nD) :
    Cert.KernelIdeal.Run.result m c = Cert.ReferenceIdeal.RefValue.REF
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) := by
  obtain ⟨h0, h1, h2, h3, h4, h5⟩ := hpre c
  exact Cert.Equation.attended_eq _ _ _ _ _ _ _ _ _ _ (Cert.Equation.reals_of_test _ _ h0) (Cert.Equation.reals_of_test _ _ h1)
    (Cert.Equation.reals_of_test _ _ h2) (Cert.Equation.reals_of_test _ _ h3) (Cert.Equation.reals_of_test _ _ h4) (Cert.Equation.reals_of_test _ _ h5)

/-- From argument arrays that agree and meet the precondition, the idealized kernel and the reference return the same array. -/
theorem same_result : algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hagree
  refine ⟨fun c => Cert.KernelIdeal.Run.result m c, θ_run_mono (Cert.KernelIdeal.Run.run m g) fun r h c => ⟨(h c).1, ?_⟩,
    θ_run_mono (Cert.ReferenceIdeal.Value.run m' g') fun r h c => ⟨(h c).1.trans ?_, (h c).2⟩⟩
  · have ha := (h c).2
    exact ⟨ha _ (by decide), ha _ (by decide), ha _ (by decide), ha _ (by decide), ha _ (by decide), ha _ (by decide), ha _ (by decide),
      ha _ (by decide), ha _ (by decide), ha _ (by decide)⟩
  · obtain ⟨e0, e1, e2, e3, e4, e5, e6, e7, e8, e9⟩ := hagree c
    refine (Cert.ReferenceIdeal.RefValue.result_eq m' c).trans ?_
    rw [e0, e1, e2, e3, e4, e5, e6, e7, e8, e9]
    exact (value_eq m hpre c).symm

/-- Everything the certificate claims. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    reference_frame, fun m g _ => reference_frame m g trivial, trivial, same_result⟩

end Cert.Proof

end
